-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_no_plus_infinity [hPre_no_plus_infinity : Cert.Pre_no_plus_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_no_plus_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_no_plus_infinity [hPre_no_plus_infinity : Cert.Pre_no_plus_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_no_plus_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_no_plus_infinity [hKernelIdeal : Cert.KernelIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_no_plus_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_no_plus_infinity [hReferenceIdeal : Cert.ReferenceIdeal.Facts] [hPre_no_plus_infinity : Cert.Pre_no_plus_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_no_plus_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_no_plus_infinity [hKernelIdeal : Cert.KernelIdeal.Facts] [hReferenceIdeal : Cert.ReferenceIdeal.Facts] [hPre_no_plus_infinity : Cert.Pre_no_plus_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_no_plus_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_no_plus_infinity : Cert.Pre_no_plus_infinity.Facts),
    quiescent_Kernel (hKernel := hKernel)
    ∧ quiescent_KernelIdeal (hKernelIdeal := hKernelIdeal)
    ∧ quiescent_KernelIdeal_pre_no_plus_infinity (hKernelIdeal := hKernelIdeal) (hPre_no_plus_infinity := hPre_no_plus_infinity)
    ∧ quiescent_ReferenceIdeal (hReferenceIdeal := hReferenceIdeal)
    ∧ quiescent_ReferenceIdeal_pre_no_plus_infinity (hReferenceIdeal := hReferenceIdeal) (hPre_no_plus_infinity := hPre_no_plus_infinity)
    ∧ preserves_Kernel_KernelIdeal
    ∧ algebraic_KernelIdeal_ReferenceIdeal_pre_no_plus_infinity (hKernelIdeal := hKernelIdeal) (hReferenceIdeal := hReferenceIdeal) (hPre_no_plus_infinity := hPre_no_plus_infinity)
-- ==== Pre_no_plus_infinity.lean ====
abbrev S32x32x32001 : Shape := ⟨3, ![32, 32, 32001]⟩
abbrev S32x32 : Shape := ⟨2, ![32, 32]⟩
abbrev S_ : Shape := ⟨0, ![]⟩
abbrev S32001 : Shape := ⟨1, ![32001]⟩
abbrev S1x1x32001 : Shape := ⟨3, ![1, 1, 32001]⟩
abbrev S32x32x1 : Shape := ⟨3, ![32, 32, 1]⟩

class Facts : Prop where
  bcast_S_S32x32 : S_.BroadcastsInDim S32x32 (![] : Fin 0 → Fin S32x32.rank)
  bcast_S_S32001 : S_.BroadcastsInDim S32001 (![] : Fin 0 → Fin S32001.rank)
  bcast_S_S32x32x32001 : S_.BroadcastsInDim S32x32x32001 (![] : Fin 0 → Fin S32x32x32001.rank)
  bcast_S32001_S1x1x32001_2 : S32001.BroadcastsInDim S1x1x32001 (![2] : Fin 1 → Fin S1x1x32001.rank)
  bcast_S1x1x32001_S32x32x32001_0_1_2 : S1x1x32001.BroadcastsInDim S32x32x32001 (![0, 1, 2] : Fin 3 → Fin S32x32x32001.rank)
  bcast_S32x32_S32x32x1_0_1 : S32x32.BroadcastsInDim S32x32x1 (![0, 1] : Fin 2 → Fin S32x32x1.rank)
  bcast_S32x32x1_S32x32x32001_0_1_2 : S32x32x1.BroadcastsInDim S32x32x32001 (![0, 1, 2] : Fin 3 → Fin S32x32x32001.rank)
  reducesTo_S32x32x32001_S_d0_1_2 : S32x32x32001.ReducesTo [0, 1, 2] S_
  h_S_ : 0 < S_.numel

variable [Facts]

def fn {F : FTy → Type} [FloatOps F] (main_arg0 : FVec F S32x32x32001 .f32) (main_arg1 : IVec S32x32 32) : IVec S_ 1 :=
  let main_c : IVec S_ 32 := constantI S_ 32 32000#32
  let main_v0 : IVec S32x32 32 := broadcastInDim S32x32 ![] bcast_S_S32x32 main_c
  let main_v1 : IVec S32x32 1 := cmpi .eq main_arg1 main_v0
  let main_v2 : IVec S32001 32 := iotaInDim S32001 32 0
  let main_c_0 : IVec S_ 32 := constantI S_ 32 32000#32
  let main_v3 : IVec S32001 32 := broadcastInDim S32001 ![] bcast_S_S32001 main_c_0
  let main_v4 : IVec S32001 1 := cmpi .eq main_v2 main_v3
  let main_cst : FVec F S_ .f32 := constant S_ .f32 0x7F800000#32
  let main_v5 : FVec F S32x32x32001 .f32 := broadcastInDim S32x32x32001 ![] bcast_S_S32x32x32001 main_cst
  let main_v6 : IVec S32x32x32001 1 := cmpf .olt main_arg0 main_v5
  let main_v7 : IVec S1x1x32001 1 := broadcastInDim S1x1x32001 ![2] bcast_S32001_S1x1x32001_2 main_v4
  let main_v8 : IVec S32x32x32001 1 := broadcastInDim S32x32x32001 ![0, 1, 2] bcast_S1x1x32001_S32x32x32001_0_1_2 main_v7
  let main_v9 : IVec S32x32x32001 1 := ori main_v6 main_v8
  let main_v10 : IVec S32x32x1 1 := broadcastInDim S32x32x1 ![0, 1] bcast_S32x32_S32x32x1_0_1 main_v1
  let main_v11 : IVec S32x32x1 1 := noti main_v10
  let main_v12 : IVec S32x32x32001 1 := broadcastInDim S32x32x32001 ![0, 1, 2] bcast_S32x32x1_S32x32x32001_0_1_2 main_v11
  let main_v13 : IVec S32x32x32001 1 := ori main_v9 main_v12
  let main_c_1 : IVec S_ 1 := constantI S_ 1 1#1
  let main_v14 : IVec S_ 1 := (fun x v => Host.reduce IntOp.andi x v reducesTo_S32x32x32001_S_d0_1_2 h_S_) main_v13 main_c_1
  main_v14
-- ==== Kernel.lean ====
abbrev S32x32x32001 : Shape := ⟨3, ![32, 32, 32001]⟩
abbrev S32x32 : Shape := ⟨2, ![32, 32]⟩
abbrev S1024x32001 : Shape := ⟨2, ![1024, 32001]⟩
abbrev S1024x1 : Shape := ⟨2, ![1024, 1]⟩
abbrev S8x32001 : Shape := ⟨2, ![8, 32001]⟩
abbrev S8x1 : Shape := ⟨2, ![8, 1]⟩
abbrev S8 : Shape := ⟨1, ![8]⟩

abbrev nBuf : Space → Nat
  | .hbm => 6
  | .vmem => 6
  | .smem => 0
  | _ => 0

abbrev bufTy : (tb : Table) → Fin (tcTables nBuf tb) → BufTy
  | .hbm, ⟨0, _⟩ => ⟨S32x32x32001, .f32⟩
  | .hbm, ⟨1, _⟩ => ⟨S32x32, .i32⟩
  | .hbm, ⟨2, _⟩ => ⟨S1024x32001, .f32⟩
  | .hbm, ⟨3, _⟩ => ⟨S1024x1, .i32⟩
  | .hbm, ⟨4, _⟩ => ⟨S1024x32001, .f32⟩
  | .hbm, ⟨5, _⟩ => ⟨S32x32x32001, .f32⟩
  | .local _ .vmem, ⟨0, _⟩ => ⟨S8x32001, .f32⟩
  | .local _ .vmem, ⟨1, _⟩ => ⟨S8x32001, .f32⟩
  | .local _ .vmem, ⟨2, _⟩ => ⟨S8x1, .i32⟩
  | .local _ .vmem, ⟨3, _⟩ => ⟨S8x1, .i32⟩
  | .local _ .vmem, ⟨4, _⟩ => ⟨S8x32001, .f32⟩
  | .local _ .vmem, ⟨5, _⟩ => ⟨S8x32001, .f32⟩
  | _, _ => ⟨S32x32x32001, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32001 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x32001 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S32x32x32001 : Shape := ⟨3, ![32, 32, 32001]⟩
abbrev S32x32 : Shape := ⟨2, ![32, 32]⟩
abbrev S_ : Shape := ⟨0, ![]⟩
abbrev S1 : Shape := ⟨1, ![1]⟩
abbrev S32x32x1 : Shape := ⟨3, ![32, 32, 1]⟩
abbrev S32001 : Shape := ⟨1, ![32001]⟩
abbrev S1x1x32001 : Shape := ⟨3, ![1, 1, 32001]⟩

abbrev nBuf : Space → Nat
  | .hbm => 46
  | .vmem => 0
  | .smem => 0
  | _ => 0

abbrev bufTy : (tb : Table) → Fin (tcTables nBuf tb) → BufTy
  | .hbm, ⟨0, _⟩ => ⟨S32x32x32001, .f32⟩
  | .hbm, ⟨1, _⟩ => ⟨S32x32, .i32⟩
  | .hbm, ⟨2, _⟩ => ⟨S_, .i32⟩
  | .hbm, ⟨3, _⟩ => ⟨S1, .i32⟩
  | .hbm, ⟨4, _⟩ => ⟨S_, .f32⟩
  | .hbm, ⟨5, _⟩ => ⟨S32x32, .f32⟩
  | .hbm, ⟨6, _⟩ => ⟨S32x32x32001, .f32⟩
  | .hbm, ⟨7, _⟩ => ⟨S_, .f32⟩
  | .hbm, ⟨8, _⟩ => ⟨S32x32, .f32⟩
  | .hbm, ⟨9, _⟩ => ⟨S32x32x1, .f32⟩
  | .hbm, ⟨10, _⟩ => ⟨S32x32x1, .f32⟩
  | .hbm, ⟨11, _⟩ => ⟨S_, .f32⟩
  | .hbm, ⟨12, _⟩ => ⟨S32x32x1, .f32⟩
  | .hbm, ⟨13, _⟩ => ⟨S32x32x1, .i1⟩
  | .hbm, ⟨14, _⟩ => ⟨S_, .f32⟩
  | .hbm, ⟨15, _⟩ => ⟨S_, .f32⟩
  | .hbm, ⟨16, _⟩ => ⟨S32x32x1, .f32⟩
  | .hbm, ⟨17, _⟩ => ⟨S32x32x1, .f32⟩
  | .hbm, ⟨18, _⟩ => ⟨S32x32x32001, .f32⟩
  | .hbm, ⟨19, _⟩ => ⟨S32x32x32001, .f32⟩
  | .hbm, ⟨20, _⟩ => ⟨S32x32x32001, .f32⟩
  | .hbm, ⟨21, _⟩ => ⟨S_, .f32⟩
  | .hbm, ⟨22, _⟩ => ⟨S32x32, .f32⟩
  | .hbm, ⟨23, _⟩ => ⟨S32x32x1, .f32⟩
  | .hbm, ⟨24, _⟩ => ⟨S32x32x1, .f32⟩
  | .hbm, ⟨25, _⟩ => ⟨S32x32x1, .f32⟩
  | .hbm, ⟨26, _⟩ => ⟨S32x32x32001, .f32⟩
  | .hbm, ⟨27, _⟩ => ⟨S32x32x32001, .f32⟩
  | .hbm, ⟨28, _⟩ => ⟨S_, .i32⟩
  | .hbm, ⟨29, _⟩ => ⟨S32x32, .i32⟩
  | .hbm, ⟨30, _⟩ => ⟨S32x32, .i1⟩
  | .hbm, ⟨31, _⟩ => ⟨S32001, .i32⟩
  | .hbm, ⟨32, _⟩ => ⟨S1x1x32001, .i32⟩
  | .hbm, ⟨33, _⟩ => ⟨S32x32x1, .i32⟩
  | .hbm, ⟨34, _⟩ => ⟨S32x32x32001, .i32⟩
  | .hbm, ⟨35, _⟩ => ⟨S32x32x32001, .i32⟩
  | .hbm, ⟨36, _⟩ => ⟨S32x32x32001, .i1⟩
  | .hbm, ⟨37, _⟩ => ⟨S32x32x1, .i1⟩
  | .hbm, ⟨38, _⟩ => ⟨S_, .f32⟩
  | .hbm, ⟨39, _⟩ => ⟨S_, .f32⟩
  | .hbm, ⟨40, _⟩ => ⟨S32x32x32001, .f32⟩
  | .hbm, ⟨41, _⟩ => ⟨S32x32x32001, .f32⟩
  | .hbm, ⟨42, _⟩ => ⟨S32x32x32001, .f32⟩
  | .hbm, ⟨43, _⟩ => ⟨S32x32x32001, .f32⟩
  | .hbm, ⟨44, _⟩ => ⟨S32x32x32001, .i1⟩
  | .hbm, ⟨45, _⟩ => ⟨S32x32x32001, .f32⟩
  | _, _ => ⟨S32x32x32001, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_cst_6 : Ref sig .tc := ⟨.hbm, 39, rfl⟩
abbrev main_call1_v0 : Ref sig .tc := ⟨.hbm, 40, rfl⟩
abbrev main_call1_v1 : Ref sig .tc := ⟨.hbm, 41, rfl⟩
abbrev main_v27 : Ref sig .tc := ⟨.hbm, 42, rfl⟩
abbrev main_call2_v0 : Ref sig .tc := ⟨.hbm, 43, rfl⟩
abbrev main_call2_v1 : Ref sig .tc := ⟨.hbm, 44, rfl⟩
abbrev main_v28 : Ref sig .tc := ⟨.hbm, 45, rfl⟩

abbrev nD : Nat := 1
abbrev τ : Topo := Topo.v7x

variable {F : FTy → Type} [FloatOps F]
-- ==== Proof.Row.lean ====
/- One row of logits over the extended reals: its maximum, the two spellings of its log-sum-exp, and their equality when
   the row has no `⊤`. Nothing here mentions a program. -/
module

public import Idealize.ShloMosaic.PureOps.Ideal
public import Idealize.ShloMosaic.PureOps.Ideal.Laws

@[expose] public section

noncomputable section

namespace Cert.Proof.Row

open Idealize.ShloMosaic

variable {n : Nat}

/-- The greatest entry of a row, from `⊥`. -/
def peak (r : Fin n → EReal) : EReal := (Finset.univ : Finset (Fin n)).fold max ⊥ r

/-- The row's log-sum-exp as the kernel takes it: shifted by the greatest entry whatever that is. -/
def lseShifted (r : Fin n → EReal) : EReal := peak r + Ideal.log (∑ v, Ideal.exp (r v - peak r))

/-- The shift of a guarded log-sum-exp: the greatest entry where it is finite, else zero. -/
def guard (r : Fin n → EReal) : EReal := if max (peak r) (-peak r) < ⊤ then peak r else 0

/-- The row's log-sum-exp as the reference takes it: shifted by the greatest entry where that is finite. -/
def lseGuarded (r : Fin n → EReal) : EReal := Ideal.log (∑ v, Ideal.exp (r v - guard r)) + guard r

/-- A row without `⊤` has no greatest entry `⊤`. -/
theorem peak_lt_top {r : Fin n → EReal} (h : ∀ v, r v < ⊤) : peak r < ⊤ :=
  (Finset.fold_max_lt _).2 ⟨bot_lt_top, fun v _ => h v⟩

/-- No entry exceeds the greatest. -/
theorem le_peak (r : Fin n → EReal) (v : Fin n) : r v ≤ peak r :=
  (Finset.le_fold_max _).2 (.inr ⟨v, Finset.mem_univ v, le_rfl⟩)

/-- A row without `⊤` has one log-sum-exp, whichever way it is shifted. -/
theorem lse_eq {r : Fin n → EReal} (h : ∀ v, r v < ⊤) : lseShifted r = lseGuarded r := by
  have hle := le_peak r
  have hlt := peak_lt_top h
  unfold lseShifted lseGuarded guard
  generalize peak r = p at hle hlt
  induction p using EReal.rec with
  | bot =>
    have hr : ∀ v, r v = ⊥ := fun v => le_bot_iff.1 (hle v)
    have h0 : Ideal.log 0 = ⊥ := by rw [← EReal.coe_zero, Ideal.log_coe, if_pos le_rfl]
    simp [hr, h0]
  | top => exact absurd hlt (lt_irrefl _)
  | coe x =>
    rw [if_pos (max_lt (EReal.coe_lt_top x) (by rw [← EReal.coe_neg]; exact EReal.coe_lt_top _)), add_comm]

/-- The column of the mask token. -/
abbrev maskCol : Nat := 32000

/-- A row of logits with the mask token's column at `⊥`. -/
def masked (r : Fin n → EReal) (v : Fin n) : EReal := if v.val = maskCol then ⊥ else r v

/-- The row of a token already known: `0` at the token, `⊥` elsewhere. -/
def oneHot (t : BitVec 32) (v : Fin n) : EReal := if BitVec.ofNat 32 v.val = t then 0 else ⊥

/-- What the kernel puts in a row of logits `r` under the token `t`. -/
def kernelRow (r : Fin n → EReal) (t : BitVec 32) (v : Fin n) : EReal :=
  if t ≠ 32000#32 then oneHot t v else masked r v - lseShifted (masked r)

/-- What the reference puts there. -/
def referenceRow (r : Fin n → EReal) (t : BitVec 32) (v : Fin n) : EReal :=
  if t ≠ 32000#32 then oneHot t v else masked r v - lseGuarded (masked r)

/-- The two rows are one, when a row that still holds the mask token has no `⊤` outside the mask token's column. -/
theorem row_eq (r : Fin n → EReal) (t : BitVec 32) (h : t = 32000#32 → ∀ v : Fin n, v.val ≠ maskCol → r v < ⊤) (v : Fin n) :
    kernelRow r t v = referenceRow r t v := by
  unfold kernelRow referenceRow
  by_cases ht : t = 32000#32
  · rw [lse_eq fun w => ?_]
    unfold masked
    split
    · exact bot_lt_top
    · next hw => exact h ht w hw
  · rw [if_pos ht, if_pos ht]

/-- The condition is needed: in a row that still holds the mask token and has a `⊤` outside the mask token's column, the
    kernel puts `⊤` in that column and the reference `⊥`. -/
theorem row_top (r : Fin n → EReal) (v : Fin n) (hv : v.val ≠ maskCol) (h : r v = ⊤) :
    kernelRow r 32000#32 v = ⊤ ∧ referenceRow r 32000#32 v = ⊥ := by
  have hm : masked r v = ⊤ := by unfold masked; rw [if_neg hv, h]
  have hp : peak (masked r) = ⊤ := top_le_iff.1 (hm ▸ le_peak (masked r) v)
  have h0 : Ideal.log 0 = ⊥ := by rw [← EReal.coe_zero, Ideal.log_coe, if_pos le_rfl]
  have hg : guard (masked r) = 0 := by unfold guard; rw [hp, if_neg (by simp)]
  have hpos : ∀ x : EReal, 0 ≤ Ideal.exp x := fun x => by
    induction x using EReal.rec with
    | bot => simp
    | top => simp
    | coe x => rw [Ideal.exp_coe]; exact EReal.coe_nonneg.2 (Real.exp_pos x).le
  have hs : ∑ w, Ideal.exp (masked r w - 0) = ⊤ := by
    refine top_le_iff.1 (le_trans ?_ (Finset.single_le_sum (fun w _ => hpos _) (Finset.mem_univ v)))
    rw [hm]
    simp
  unfold kernelRow referenceRow lseShifted lseGuarded
  rw [if_neg (by decide), if_neg (by decide), hm, hp, hg, hs]
  constructor
  · simp [h0]
  · simp

end Cert.Proof.Row

end
-- ==== Proof.Scalar.lean ====
/- The scalar readings both programs' elements come down to: the two infinities' bit patterns, and a selection on a
   comparison of words as an `if`. -/
module

public import Idealize.ShloMosaic.Lib.WordCmp
public import proofs.«01_k».proof.Proof.Row

@[expose] public section

noncomputable section

namespace Cert.Proof.Elem

open Idealize.ShloMosaic Idealize.ShloMosaic.WordCmp Cert.Proof.Row

/-- The pattern of minus infinity denotes `⊥`. -/
theorem ofBits_bot : Ideal.ofBits .f32 0xFF800000#32 = ⊥ := by simp [Ideal.ofBits, Ideal.ieee]

/-- The pattern of plus infinity denotes `⊤`. -/
theorem ofBits_top : Ideal.ofBits .f32 0x7F800000#32 = ⊤ := by simp [Ideal.ofBits, Ideal.ieee]

/-- A selection on two words being equal. -/
theorem select_eq {α : Type} {w : Nat} (x y : BitVec w) (a b : α) :
    Scalar.select (IntOp.cmpi .eq x y) a b = if x = y then a else b := by
  rw [cmpi_eq_eq, select_decide]

/-- A selection on two words being different. -/
theorem select_ne {α : Type} {w : Nat} (x y : BitVec w) (a b : α) :
    Scalar.select (IntOp.cmpi .ne x y) a b = if x ≠ y then a else b := by
  rw [cmpi_ne_eq, select_decide]

/-- A column's word is the mask column's exactly at the mask column. -/
theorem word_eq_maskCol (v : Fin 32001) : BitVec.ofNat 32 v.val = 32000#32 ↔ v.val = maskCol := by
  have := v.isLt
  rw [← BitVec.toNat_inj, BitVec.toNat_ofNat, BitVec.toNat_ofNat]
  unfold maskCol; omega

/-- The kernel's mask — the mask column, or a column past the vocabulary, of which there is none. -/
theorem select_mask (r : Fin 32001 → EReal) (v : Fin 32001) :
    Scalar.select (IntOp.ori (IntOp.cmpi .eq (BitVec.ofNat 32 v.val) 32000#32)
      (IntOp.cmpi .sge (BitVec.ofNat 32 v.val) 32001#32)) (⊥ : EReal) (r v) = masked r v := by
  have hv := v.isLt
  have hge : IntOp.cmpi .sge (BitVec.ofNat 32 v.val) 32001#32 = 0#1 := by
    rw [cmpi_sge_ofNat (by omega) (by norm_num), decide_eq_false (by omega)]
    rfl
  rw [hge, show ∀ b : BitVec 1, IntOp.ori b 0#1 = b from fun b => BitVec.or_zero, select_eq]
  unfold masked
  exact if_congr (word_eq_maskCol v) rfl rfl

end Cert.Proof.Elem

end
-- ==== Proof.Block.lean ====
/- What the kernel's body computes of one block: every row of it by itself (Row.lean). -/
module

public import proofs.«01_k».proof.Proof.Gen.KernelIdeal.Skeleton
public import proofs.«01_k».proof.Proof.Scalar
public import Idealize.ShloMosaic.Lib.Pointwise

@[expose] public section

noncomputable section

namespace Cert.Proof.Block

open Cert.KernelIdeal Cert.KernelIdeal.Gen Idealize.ShloMosaic Cert.Proof.Row Cert.Proof.Elem

/-- The body's stored block, at a row and a column: the kernel's row of that row of the block. -/
theorem payload (x : FVec Ideal S8x32001 .f32) (t : IVec S8x1 32) (i : Fin 8) (v : Fin 32001) :
    k0_pay1 (F := Ideal) x t (ix2 i v) = kernelRow (fun w => x (ix2 i w)) (t (ix2 i 0)) v := by
  pointwise [k0_pay1]
  have hm := select_mask fun w => x (ix2 i w)
  simp only [ofBits_bot, hm, select_ne, select_eq]
  rfl

end Cert.Proof.Block

end
-- ==== Proof.KernelValue.lean ====
/- What the kernel leaves in its result: the kernel's row (Row.lean) of every row of the logits. -/
module

public import proofs.«01_k».proof.Proof.Gen.KernelIdeal.Frame
public import proofs.«01_k».proof.Proof.Block
public import Idealize.ShloMosaic.Lib.Pipeline.ValueKit

@[expose] public section

set_option maxRecDepth 16384

noncomputable section

namespace Cert.Proof.KernelValue

open Cert.KernelIdeal Cert.KernelIdeal.Gen Idealize.ShloMosaic Idealize.ShloMosaic.TcCoe Idealize.SL.Sem Cert.Proof.Row

variable (m : (ℓ : Loc nD τ sig) → Buf (Elt Ideal) ℓ)

/-- The kernel's row of every row of a matrix of logits. -/
def matrixOut (x : S1024x32001.Idx → EReal) (t : S1024x1.Idx → BitVec 32) (i : S1024x32001.Idx) : EReal :=
  kernelRow (fun w : Fin 32001 => x (ix2 (i 0) w)) (t (ix2 (i 0) 0)) (i 1)

/-- Every window moves down the rows with the grid. -/
theorem index_facts : ∀ t : Fin cfg0.N, win0_0.index t = ![t.val, 0] ∧ win0_1.index t = ![t.val, 0] ∧ win0_2.index t = ![t.val, 0] :=
  (by decide +kernel : ∀ t : Fin grid0.N, win0_0.index t = ![t.val, 0] ∧ win0_1.index t = ![t.val, 0] ∧ win0_2.index t = ![t.val, 0])

/-- The result matrix after the run is `matrixOut` of the two operands. -/
theorem matrix_eq (c : Dev nD) : (dats m 0 c).arrAt 2 cfg0.N = matrixOut (V m c main_v0) (V m c main_v1) := by
  refine (dats m 0 c).arrAt_eq_of_covers 2 _ (by decide +kernel) fun t hf y => ?_
  blk_simp
  rw [after0_2]
  frame_out
  obtain ⟨i, v, rfl⟩ : ∃ (i : Fin 8) (v : Fin 32001), y = ix2 i v := ⟨y 0, y 1, by funext a; fin_cases a <;> rfl⟩
  refine (Block.payload _ _ i v).trans ?_
  unfold matrixOut
  have hv : ((View.whole main_v2).slice (win0_2.rect t)).emb (ix2 i v) 1 = v := by
    refine Fin.ext ?_
    blk_simp [index_facts t]
  have hx : ∀ w : Fin 32001, iblk m c 0 t (ix2 i w) = V m c main_v0 (ix2 (((View.whole main_v2).slice (win0_2.rect t)).emb (ix2 i v) 0) w) := by
    intro w
    blk_ext [iblk, V, index_facts t]
  have ht : iblk m c 1 t (ix2 i 0) = V m c main_v1 (ix2 (((View.whole main_v2).slice (win0_2.rect t)).emb (ix2 i v) 0) 0) := by
    blk_ext [iblk, V, index_facts t]
  rw [hv, ← ht]
  congr 1
  funext w
  exact hx w

/-- The kernel's row of every row of the logits. -/
def result (x : S32x32x32001.Idx → EReal) (t : S32x32.Idx → BitVec 32) (i : S32x32x32001.Idx) : EReal :=
  kernelRow (fun w : Fin 32001 => x (ix3 (i 0) (i 1) w)) (t (ix2 (i 0) (i 1))) (i 2)

/-- The kernel's first operand is the logits, their leading two axes run together. -/
theorem operand0_eq (c : Dev nD) : V m c main_v0
    = shapeCast S1024x32001 (m ((c : Thread nD τ).loc main_arg0) : FVec Ideal S32x32x32001 .f32) shapeCasts_S32x32x32001_S1024x32001 := by
  entry_read
  rfl

/-- The kernel's second operand is the current tokens as a column. -/
theorem operand1_eq (c : Dev nD) : V m c main_v1
    = shapeCast S1024x1 (m ((c : Thread nD τ).loc main_arg1) : IVec S32x32 32) shapeCasts_S32x32_S1024x1 := by
  entry_read
  rfl

/-- Row `32 a + b` of the matrix is row `(a, b)` of the logits. -/
theorem matrixOut_reshaped (x : FVec Ideal S32x32x32001 .f32) (t : IVec S32x32 32) :
    shapeCast S32x32x32001 (matrixOut (shapeCast S1024x32001 x shapeCasts_S32x32x32001_S1024x32001)
      (shapeCast S1024x1 t shapeCasts_S32x32_S1024x1)) shapeCasts_S1024x32001_S32x32x32001 = result x t := by
  funext i
  obtain ⟨a, b, v, rfl⟩ : ∃ (a b : Fin 32) (v : Fin 32001), i = ix3 a b v := ⟨i 0, i 1, i 2, eq_ix3 i⟩
  pointwise
  unfold matrixOut
  pointwise
  rfl

/-- The three windows stand on three arrays. -/
theorem arrRef_injective : Function.Injective (Pipeline.arrRef spec0) := by decide

/-- The result the host line after the kernel leaves is `result` of the two arguments. -/
theorem tail_eq (c : Dev nD) : Pipeline.afterTail₀ cfgs (dats m) 0 (V0 m) [hostOps1] c main_v3
    = result (m ((c : Thread nD τ).loc main_arg0)) (m ((c : Thread nD τ).loc main_arg1)) := by
  have hw : Pipeline.withArrays (cfgs 0).spec c (V0 m c) (fun w => (dats m 0 c).arrAt w (cfgs 0).N) (Proc.tc.devRef main_v2)
      = matrixOut (V m c main_v0) (V m c main_v1) :=
    (Pipeline.withArrays_arr spec0 arrRef_injective c (V0 m c) (fun w => (dats m 0 c).arrAt w cfg0.N) 2).trans (matrix_eq m c)
  unfold Pipeline.afterTail₀
  simp only [hostOps1, List.flatten_cons, List.flatten_nil, List.append_nil]
  after_results
  refine funext fun i => ?_
  rw [hw]
  change shapeCast S32x32x32001 (matrixOut (V m c main_v0) (V m c main_v1)) shapeCasts_S1024x32001_S32x32x32001 i = _
  rw [operand0_eq, operand1_eq]
  exact congrFun (matrixOut_reshaped _ _) i

/-- The kernel program ends with `result` of its two arguments in its result, the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v3) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h.1 c).2 main_v3 (Pipeline.mem_restRefs_of main_v3 (by decide) (by decide))).trans (tail_eq m c), h.2 c⟩)
    (θ_run_and (run_main m ρ) (unchanged m ρ))

end Cert.Proof.KernelValue

end
-- ==== Proof.ReferenceValue.lean ====
/- What the reference leaves in its result: the reference's row (Row.lean) of every row of the logits. -/
module

public import proofs.«01_k».proof.Proof.Gen.ReferenceIdeal.Run
public import proofs.«01_k».proof.Proof.Scalar
public import Idealize.ShloMosaic.Lib.Pointwise
public import Idealize.ShloMosaic.Lib.Routing.OpsSet

@[expose] public section

noncomputable section

namespace Cert.Proof.ReferenceValue

open Cert.ReferenceIdeal Cert.ReferenceIdeal.Facts₀ Cert.ReferenceIdeal.Value Idealize.ShloMosaic Idealize.ShloMosaic.TcCoe Idealize.SL.Sem Cert.Proof.Row Cert.Proof.Elem

/-- The logits with minus infinity written down the mask token's column. -/
abbrev maskedLogits (x : FVec Ideal S32x32x32001 .f32) : FVec Ideal S32x32x32001 .f32 :=
  Host.scatter scatter_S32x32x32001_S1_S32x32_01_2_2_0 (fun _ b => b) x (broadcastInDim S1 ![] bcast_S_S1 (constantI S_ 32 32000#32))
    (broadcastInDim S32x32 ![] bcast_S_S32x32 (constant S_ .f32 0xFF800000#32))

/-- Update `(a, b)` is written to the mask token's column of row `(a, b)` and nowhere else. -/
theorem lands (a b : Fin 32) (i j : Fin 32) (v : Fin 32001) :
    scatter_S32x32x32001_S1_S32x32_01_2_2_0.resultIdx? (ix2 i j) (broadcastInDim S1 ![] bcast_S_S1 (constantI S_ 32 32000#32)) = some (ix3 a b v)
      ↔ i = a ∧ j = b ∧ v.val = maskCol := by
  rw [Routing.resultIdx?_eq_some]
  have s0 : scatter_S32x32x32001_S1_S32x32_01_2_2_0.start (ix2 i j) (broadcastInDim S1 ![] bcast_S_S1 (constantI S_ 32 32000#32)) 0 = 0 := rfl
  have s1 : scatter_S32x32x32001_S1_S32x32_01_2_2_0.start (ix2 i j) (broadcastInDim S1 ![] bcast_S_S1 (constantI S_ 32 32000#32)) 1 = 0 := rfl
  have s2 : scatter_S32x32x32001_S1_S32x32_01_2_2_0.start (ix2 i j) (broadcastInDim S1 ![] bcast_S_S1 (constantI S_ 32 32000#32)) 2 = 32000 := rfl
  have w0 : scatter_S32x32x32001_S1_S32x32_01_2_2_0.window (ix2 i j) 0 = i.val := rfl
  have w1 : scatter_S32x32x32001_S1_S32x32_01_2_2_0.window (ix2 i j) 1 = j.val := rfl
  have w2 : scatter_S32x32x32001_S1_S32x32_01_2_2_0.window (ix2 i j) 2 = 0 := rfl
  constructor
  · intro h
    have h0 := h 0
    have h1 := h 1
    have h2 := h 2
    rw [s0, w0, show (ix3 a b v 0).val = a.val from rfl] at h0
    rw [s1, w1, show (ix3 a b v 1).val = b.val from rfl] at h1
    rw [s2, w2, show (ix3 a b v 2).val = v.val from rfl] at h2
    exact ⟨Fin.ext (by omega), Fin.ext (by omega), by unfold maskCol; omega⟩
  · rintro ⟨rfl, rfl, h⟩
    rw [Fin.forall_fin_succ, Fin.forall_fin_succ, Fin.forall_fin_succ]
    refine ⟨?_, ?_, ?_, fun e => e.elim0⟩
    · exact (congrArg₂ (fun (p : Int) (q : Nat) => p + (q : Int)) s0 w0).trans (zero_add _)
    · exact (congrArg₂ (fun (p : Int) (q : Nat) => p + (q : Int)) s1 w1).trans (zero_add _)
    · refine (congrArg₂ (fun (p : Int) (q : Nat) => p + (q : Int)) s2 w2).trans ?_
      change (32000 : Int) + ((0 : Nat) : Int) = (v.val : Int)
      rw [h]
      rfl

/-- A row of the masked logits is the masked row of the logits. -/
theorem maskedLogits_read (x : FVec Ideal S32x32x32001 .f32) (a b : Fin 32) (v : Fin 32001) :
    maskedLogits x (ix3 a b v) = masked (fun w => x (ix3 a b w)) v := by
  unfold masked
  split
  · next h =>
    refine Routing.scatter_set_hit _ x _ _ _ _ (fun k _ => ?_) (ix2 a b) ((lands a b a b v).2 ⟨rfl, rfl, h⟩)
    exact ofBits_bot
  · next h =>
    refine Routing.scatter_set_miss _ x _ _ _ fun k hk => ?_
    rw [ValueIdx.eq_ix2 k] at hk
    exact h ((lands a b _ _ v).1 hk).2.2

/-- The greatest entry of each row, as the reference takes it. -/
abbrev rowMax (y : FVec Ideal S32x32x32001 .f32) : FVec Ideal S32x32x1 .f32 :=
  broadcastInDim S32x32x1 ![0, 1] bcast_S32x32_S32x32x1_0_1 (Host.reduce FloatOps.maximumf y (constant S_ .f32 0xFF800000#32) reducesTo_S32x32x32001_S32x32_d2 h_S_)

/-- The shift of each row's log-sum-exp, from its greatest entry. -/
abbrev shift (M : FVec Ideal S32x32x1 .f32) : FVec Ideal S32x32x1 .f32 :=
  select (cmpf .olt (Host.absf M) (broadcastInDim S32x32x1 ![] bcast_S_S32x32x1 (constant S_ .f32 0x7F800000#32))) M (broadcastInDim S32x32x1 ![] bcast_S_S32x32x1 (constant S_ .f32 0x00000000#32))

/-- The reference's result, from the masked logits and the shifts. -/
abbrev rest (y : FVec Ideal S32x32x32001 .f32) (g : FVec Ideal S32x32x1 .f32) (t : IVec S32x32 32) : FVec Ideal S32x32x32001 .f32 :=
  select (broadcastInDim S32x32x32001 ![0, 1, 2] bcast_S32x32x1_S32x32x32001_0_1_2 (broadcastInDim S32x32x1 ![0, 1] bcast_S32x32_S32x32x1_0_1 (cmpi .ne t (broadcastInDim S32x32 ![] bcast_S_S32x32 (constantI S_ 32 32000#32))))) (select (cmpi .eq (broadcastInDim S32x32x32001 ![0, 1, 2] bcast_S1x1x32001_S32x32x32001_0_1_2 (broadcastInDim S1x1x32001 ![2] bcast_S32001_S1x1x32001_2 (iotaInDim S32001 32 0))) (broadcastInDim S32x32x32001 ![0, 1, 2] bcast_S32x32x1_S32x32x32001_0_1_2 (broadcastInDim S32x32x1 ![0, 1] bcast_S32x32_S32x32x1_0_1 t))) (broadcastInDim S32x32x32001 ![] bcast_S_S32x32x32001 (constant S_ .f32 0x00000000#32)) (broadcastInDim S32x32x32001 ![] bcast_S_S32x32x32001 (constant S_ .f32 0xFF800000#32))) (subf y (broadcastInDim S32x32x32001 ![0, 1, 2] bcast_S32x32x1_S32x32x32001_0_1_2 (addf (Host.log (broadcastInDim S32x32x1 ![0, 1] bcast_S32x32_S32x32x1_0_1 (Host.reduceAdd (Host.exp (subf y (broadcastInDim S32x32x32001 ![0, 1, 2] bcast_S32x32x1_S32x32x32001_0_1_2 g))) (constant S_ .f32 0x00000000#32) reducesTo_S32x32x32001_S32x32_d2 h_S_))) g)))

/-- The greatest entry of a row. -/
theorem rowMax_read (y : FVec Ideal S32x32x32001 .f32) (a b : Fin 32) : rowMax y (ix3 a b 0) = peak fun w : Fin 32001 => y (ix3 a b w) := by
  unfold peak
  pointwise
  rw [ofBits_bot]

/-- A row's shift: its greatest entry where that is finite, else zero. -/
theorem shift_read (M : FVec Ideal S32x32x1 .f32) (a b : Fin 32) :
    shift M (ix3 a b 0) = if max (M (ix3 a b 0)) (-M (ix3 a b 0)) < ⊤ then M (ix3 a b 0) else 0 := by
  pointwise
  rw [ofBits_top]
  rfl

/-- An entry of the result, from the masked logits and the shift of its row. -/
theorem rest_read (y : FVec Ideal S32x32x32001 .f32) (g : FVec Ideal S32x32x1 .f32) (t : IVec S32x32 32) (a b : Fin 32) (v : Fin 32001) :
    rest y g t (ix3 a b v) = if t (ix2 a b) ≠ 32000#32 then oneHot (t (ix2 a b)) v
      else y (ix3 a b v) - (Ideal.log (∑ w : Fin 32001, Ideal.exp (y (ix3 a b w) - g (ix3 a b 0))) + g (ix3 a b 0)) := by
  pointwise
  simp only [ofBits_bot, select_ne, select_eq]
  rfl

/-- The reference's row of every row of the logits. -/
def result (x : S32x32x32001.Idx → EReal) (t : S32x32.Idx → BitVec 32) (i : S32x32x32001.Idx) : EReal :=
  referenceRow (fun w : Fin 32001 => x (ix3 (i 0) (i 1) w)) (t (ix2 (i 0) (i 1))) (i 2)

/-- The composed operations leave the reference's row of every row. -/
theorem rest_eq (x : FVec Ideal S32x32x32001 .f32) (t : IVec S32x32 32) :
    rest (maskedLogits x) (shift (rowMax (maskedLogits x))) t = result x t := by
  funext i
  obtain ⟨a, b, v, rfl⟩ : ∃ (a b : Fin 32) (v : Fin 32001), i = ix3 a b v := ⟨i 0, i 1, i 2, ValueIdx.eq_ix3 i⟩
  have hm : (fun w : Fin 32001 => maskedLogits x (ix3 a b w)) = masked fun w : Fin 32001 => x (ix3 a b w) :=
    funext fun w => maskedLogits_read x a b w
  have hg : shift (rowMax (maskedLogits x)) (ix3 a b 0) = guard (masked fun w : Fin 32001 => x (ix3 a b w)) := by
    rw [shift_read, rowMax_read, hm]
    rfl
  rw [rest_read, hg, maskedLogits_read]
  simp only [maskedLogits_read]
  rfl

/-- The reference ends with `result` of its two arguments in its result, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v28) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (rest_eq _ _), (h c).2⟩) (Value.run m ρ)

end Cert.Proof.ReferenceValue

end
-- ==== Proof.Pre.lean ====
/- What the precondition says of one row: a row that still holds the mask token has no plus infinity outside the mask
   token's column. -/
module

public import proofs.«01_k».proof.Proof.Gen.Pre_no_plus_infinity
public import proofs.«01_k».proof.Proof.Scalar
public import Idealize.ShloMosaic.Lib.Pointwise
public import Idealize.ShloMosaic.Lib.ReduceAll

@[expose] public section

noncomputable section

namespace Cert.Proof.Pre

open Cert.Pre_no_plus_infinity Idealize.ShloMosaic Idealize.ShloMosaic.WordCmp Cert.Proof.Row Cert.Proof.Elem

/-- The precondition at one row and one column. -/
theorem lt_top {x : FVec Ideal S32x32x32001 .f32} {t : IVec S32x32 32} (h : fn (F := Ideal) x t = fun _ => 1#1) (a b : Fin 32)
    (ht : t (ix2 a b) = 32000#32) (v : Fin 32001) (hv : v.val ≠ maskCol) : x (ix3 a b v) < ⊤ := by
  have hs : Subsingleton S_.Idx := inferInstance
  have h0 := congrFun h ix0
  dsimp only [fn] at h0
  have h1 := Host.reduce_andi_all _ _ _ _ _ h0 (ix3 a b v)
  revert h1
  pointwise
  rw [ht, ofBits_top, cmpi_eq_eq, cmpi_eq_eq, decide_eq_false fun e => hv ((word_eq_maskCol v).1 e), decide_eq_true rfl]
  by_cases hx : x (ix3 a b v) < ⊤
  · exact fun _ => hx
  · rw [decide_eq_false hx]
    exact fun e => absurd e (by decide)

end Cert.Proof.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_no_plus_infinity
public import proofs.«01_k».proof.Proof.KernelValue
public import proofs.«01_k».proof.Proof.ReferenceValue
public import proofs.«01_k».proof.Proof.Pre
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- The reference runs, its arguments end unchanged, and it has no semaphore, so every counter reads zero. -/
theorem reference_frame : Cert.quiescent_ReferenceIdeal := fun m g _ =>
  (θ_run Cert.ReferenceIdeal.defs _ _).mono
    (fun r h => ⟨fun c => (h c).2, Idealize.ShloMosaic.sem_eq_zero_of_no_sems (by decide) r.2⟩) (ReferenceValue.run m g)

/-- Under the precondition the two programs put the same in every entry of the result. -/
theorem result_eq (x : FVec Ideal Cert.KernelIdeal.S32x32x32001 .f32) (t : IVec Cert.KernelIdeal.S32x32 32)
    (h : Cert.Pre_no_plus_infinity.fn (F := Ideal) x t = fun _ => 1#1) : KernelValue.result x t = ReferenceValue.result x t :=
  funext fun i => Row.row_eq _ _ (fun ht v hv => Pre.lt_top h (i 0) (i 1) ht v hv) (i 2)

/-- The kernel and the reference end with equal results. -/
theorem algebraic : Cert.algebraic_KernelIdeal_ReferenceIdeal_pre_no_plus_infinity := fun m g m' g' hpre hagree =>
  ⟨fun c => KernelValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    KernelValue.run m g,
    (θ_run Cert.ReferenceIdeal.defs _ _).mono
      (fun _ h c => ⟨(h c).1.trans (by rw [(hagree c).1, (hagree c).2]; exact (result_eq _ _ (hpre c)).symm), (h c).2⟩)
      (ReferenceValue.run m' g')⟩

/-- Every claim of the certificate. -/
theorem claim : Cert.Claim :=
  ⟨Cert.Kernel.Gen.facts, Cert.KernelIdeal.Gen.facts, Cert.ReferenceIdeal.Gen.facts, Cert.Pre_no_plus_infinity.Gen.facts,
    fun m g _ => Cert.Kernel.Gen.frame m g, fun m g _ => Cert.KernelIdeal.Gen.frame m g, fun m g _ => Cert.KernelIdeal.Gen.frame m g,
    reference_frame, fun m g _ => reference_frame m g trivial, trivial, algebraic⟩

end Cert.Proof

end
